-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S500000x83 : Shape := ⟨2, ![500000, 83]⟩
abbrev S_ : Shape := ⟨0, ![]⟩
abbrev S83x32 : Shape := ⟨2, ![83, 32]⟩
abbrev S32 : Shape := ⟨1, ![32]⟩
abbrev S32x32 : Shape := ⟨2, ![32, 32]⟩

class Facts : Prop where
  bcast_S_S500000x83 : S_.BroadcastsInDim S500000x83 (![] : Fin 0 → Fin S500000x83.rank)
  reducesTo_S500000x83_S_d0_1 : S500000x83.ReducesTo [0, 1] S_
  h_S_ : 0 < S_.numel

variable [Facts]

def fn {F : FTy → Type} [FloatOps F] (main_arg0 : FVec F S500000x83 .f32) (main_arg1 : FVec F S_ .f32) (main_arg2 : FVec F S83x32 .f32) (main_arg3 : FVec F S32 .f32) (main_arg4 : FVec F S32x32 .f32) (main_arg5 : FVec F S32 .f32) (main_arg6 : FVec F S32x32 .f32) (main_arg7 : FVec F S32 .f32) : IVec S_ 1 :=
  let main_cst : FVec F S_ .f32 := constant S_ .f32 0x00000000#32
  let main_v0 : FVec F S500000x83 .f32 := broadcastInDim S500000x83 ![] bcast_S_S500000x83 main_cst
  let main_v1 : IVec S500000x83 1 := cmpf .oge main_arg0 main_v0
  let main_c : IVec S_ 1 := constantI S_ 1 1#1
  let main_v2 : IVec S_ 1 := (fun x v => Host.reduce IntOp.andi x v reducesTo_S500000x83_S_d0_1 h_S_) main_v1 main_c
  main_v2
-- ==== Kernel.lean ====
abbrev S500000x83 : Shape := ⟨2, ![500000, 83]⟩
abbrev S_ : Shape := ⟨0, ![]⟩
abbrev S83x32 : Shape := ⟨2, ![83, 32]⟩
abbrev S32 : Shape := ⟨1, ![32]⟩
abbrev S32x32 : Shape := ⟨2, ![32, 32]⟩
abbrev S83x500000 : Shape := ⟨2, ![83, 500000]⟩
abbrev S1x1 : Shape := ⟨2, ![1, 1]⟩
abbrev S32x83 : Shape := ⟨2, ![32, 83]⟩
abbrev S32x1 : Shape := ⟨2, ![32, 1]⟩
abbrev S32x500000 : Shape := ⟨2, ![32, 500000]⟩
abbrev S1x500000 : Shape := ⟨2, ![1, 500000]⟩
abbrev S83x36864 : Shape := ⟨2, ![83, 36864]⟩
abbrev S32x36864 : Shape := ⟨2, ![32, 36864]⟩
abbrev S1x36864 : Shape := ⟨2, ![1, 36864]⟩
abbrev S1x83 : Shape := ⟨2, ![1, 83]⟩
abbrev S1x32 : Shape := ⟨2, ![1, 32]⟩
abbrev S500000x32 : Shape := ⟨2, ![500000, 32]⟩
abbrev S500000 : Shape := ⟨1, ![500000]⟩

abbrev nBuf : Space → Nat
  | .hbm => 42
  | .vmem => 13
  | .smem => 0
  | _ => 0

abbrev bufTy : (tb : Table) → Fin (tcTables nBuf tb) → BufTy
  | .hbm, ⟨0, _⟩ => ⟨S500000x83, .f32⟩
  | .hbm, ⟨1, _⟩ => ⟨S_, .f32⟩
  | .hbm, ⟨2, _⟩ => ⟨S83x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S83x500000, .f32⟩
  | .hbm, ⟨9, _⟩ => ⟨S1x1, .f32⟩
  | .hbm, ⟨10, _⟩ => ⟨S32x83, .f32⟩
  | .hbm, ⟨11, _⟩ => ⟨S_, .f32⟩
  | .hbm, ⟨12, _⟩ => ⟨S32x83, .f32⟩
  | .hbm, ⟨13, _⟩ => ⟨S32x83, .f32⟩
  | .hbm, ⟨14, _⟩ => ⟨S32x32, .f32⟩
  | .hbm, ⟨15, _⟩ => ⟨S_, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S_, .f32⟩
  | .hbm, ⟨20, _⟩ => ⟨S32x32, .f32⟩
  | .hbm, ⟨21, _⟩ => ⟨S32x32, .f32⟩
  | .hbm, ⟨22, _⟩ => ⟨S32x1, .f32⟩
  | .hbm, ⟨23, _⟩ => ⟨S_, .f32⟩
  | .hbm, ⟨24, _⟩ => ⟨S32x1, .f32⟩
  | .hbm, ⟨25, _⟩ => ⟨S32x1, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S32x1, .f32⟩
  | .hbm, ⟨31, _⟩ => ⟨S_, .f32⟩
  | .hbm, ⟨32, _⟩ => ⟨S32x1, .f32⟩
  | .hbm, ⟨33, _⟩ => ⟨S32x1, .f32⟩
  | .hbm, ⟨34, _⟩ => ⟨S32x500000, .f32⟩
  | .hbm, ⟨35, _⟩ => ⟨S1x500000, .i32⟩
  | .hbm, ⟨36, _⟩ => ⟨S_, .i32⟩
  | .hbm, ⟨37, _⟩ => ⟨S1x500000, .i32⟩
  | .hbm, ⟨38, _⟩ => ⟨S1x500000, .i1⟩
  | .hbm, ⟨39, _⟩ => ⟨S1x500000, .i1⟩
  | .hbm, ⟨40, _⟩ => ⟨S500000x32, .f32⟩
  | .hbm, ⟨41, _⟩ => ⟨S500000, .i1⟩
  | .local _ .vmem, ⟨0, _⟩ => ⟨S83x36864, .f32⟩
  | .local _ .vmem, ⟨1, _⟩ => ⟨S83x36864, .f32⟩
  | .local _ .vmem, ⟨2, _⟩ => ⟨S1x1, .f32⟩
  | .local _ .vmem, ⟨3, _⟩ => ⟨S32x83, .f32⟩
  | .local _ .vmem, ⟨4, _⟩ => ⟨S32x1, .f32⟩
  | .local _ .vmem, ⟨5, _⟩ => ⟨S32x32, .f32⟩
  | .local _ .vmem, ⟨6, _⟩ => ⟨S32x1, .f32⟩
  | .local _ .vmem, ⟨7, _⟩ => ⟨S32x32, .f32⟩
  | .local _ .vmem, ⟨8, _⟩ => ⟨S32x1, .f32⟩
  | .local _ .vmem, ⟨9, _⟩ => ⟨S32x36864, .f32⟩
  | .local _ .vmem, ⟨10, _⟩ => ⟨S32x36864, .f32⟩
  | .local _ .vmem, ⟨11, _⟩ => ⟨S1x36864, .i32⟩
  | .local _ .vmem, ⟨12, _⟩ => ⟨S1x36864, .i32⟩
  | _, _ => ⟨S500000x83, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S83x36864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x83 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x36864 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x36864 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S500000x83 : Shape := ⟨2, ![500000, 83]⟩
abbrev S_ : Shape := ⟨0, ![]⟩
abbrev S83x32 : Shape := ⟨2, ![83, 32]⟩
abbrev S32 : Shape := ⟨1, ![32]⟩
abbrev S32x32 : Shape := ⟨2, ![32, 32]⟩
abbrev S500000 : Shape := ⟨1, ![500000]⟩
abbrev S500000x32 : Shape := ⟨2, ![500000, 32]⟩
abbrev S1x32 : Shape := ⟨2, ![1, 32]⟩
abbrev S500000x1 : Shape := ⟨2, ![500000, 1]⟩

abbrev nBuf : Space → Nat
  | .hbm => 80
  | .vmem => 0
  | .smem => 0
  | _ => 0

abbrev bufTy : (tb : Table) → Fin (tcTables nBuf tb) → BufTy
  | .hbm, ⟨0, _⟩ => ⟨S500000x83, .f32⟩
  | .hbm, ⟨1, _⟩ => ⟨S_, .f32⟩
  | .hbm, ⟨2, _⟩ => ⟨S83x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S_, .f32⟩
  | .hbm, ⟨9, _⟩ => ⟨S500000x83, .f32⟩
  | .hbm, ⟨10, _⟩ => ⟨S500000x83, .i1⟩
  | .hbm, ⟨11, _⟩ => ⟨S_, .i1⟩
  | .hbm, ⟨12, _⟩ => ⟨S500000, .i1⟩
  | .hbm, ⟨13, _⟩ => ⟨S_, .f32⟩
  | .hbm, ⟨14, _⟩ => ⟨S500000x83, .f32⟩
  | .hbm, ⟨15, _⟩ => ⟨S500000x83, .i1⟩
  | .hbm, ⟨16, _⟩ => ⟨S500000x83, .f32⟩
  | .hbm, ⟨17, _⟩ => ⟨S500000x83, .f32⟩
  | .hbm, ⟨18, _⟩ => ⟨S500000x32, .f32⟩
  | .hbm, ⟨19, _⟩ => ⟨S1x32, .f32⟩
  | .hbm, ⟨20, _⟩ => ⟨S500000x32, .f32⟩
  | .hbm, ⟨21, _⟩ => ⟨S500000x32, .f32⟩
  | .hbm, ⟨22, _⟩ => ⟨S_, .f32⟩
  | .hbm, ⟨23, _⟩ => ⟨S500000x32, .f32⟩
  | .hbm, ⟨24, _⟩ => ⟨S500000x32, .f32⟩
  | .hbm, ⟨25, _⟩ => ⟨S500000x32, .f32⟩
  | .hbm, ⟨26, _⟩ => ⟨S_, .f32⟩
  | .hbm, ⟨27, _⟩ => ⟨S500000x32, .f32⟩
  | .hbm, ⟨28, _⟩ => ⟨S500000x32, .f32⟩
  | .hbm, ⟨29, _⟩ => ⟨S500000x32, .f32⟩
  | .hbm, ⟨30, _⟩ => ⟨S500000x32, .f32⟩
  | .hbm, ⟨31, _⟩ => ⟨S500000x32, .f32⟩
  | .hbm, ⟨32, _⟩ => ⟨S1x32, .f32⟩
  | .hbm, ⟨33, _⟩ => ⟨S500000x32, .f32⟩
  | .hbm, ⟨34, _⟩ => ⟨S500000x32, .f32⟩
  | .hbm, ⟨35, _⟩ => ⟨S_, .f32⟩
  | .hbm, ⟨36, _⟩ => ⟨S500000x32, .f32⟩
  | .hbm, ⟨37, _⟩ => ⟨S500000x32, .f32⟩
  | .hbm, ⟨38, _⟩ => ⟨S500000x32, .f32⟩
  | .hbm, ⟨39, _⟩ => ⟨S_, .f32⟩
  | .hbm, ⟨40, _⟩ => ⟨S500000x32, .f32⟩
  | .hbm, ⟨41, _⟩ => ⟨S500000x32, .f32⟩
  | .hbm, ⟨42, _⟩ => ⟨S500000x32, .f32⟩
  | .hbm, ⟨43, _⟩ => ⟨S500000x32, .f32⟩
  | .hbm, ⟨44, _⟩ => ⟨S500000x32, .f32⟩
  | .hbm, ⟨45, _⟩ => ⟨S1x32, .f32⟩
  | .hbm, ⟨46, _⟩ => ⟨S500000x32, .f32⟩
  | .hbm, ⟨47, _⟩ => ⟨S500000x32, .f32⟩
  | .hbm, ⟨48, _⟩ => ⟨S_, .f32⟩
  | .hbm, ⟨49, _⟩ => ⟨S500000x32, .f32⟩
  | .hbm, ⟨50, _⟩ => ⟨S500000x32, .f32⟩
  | .hbm, ⟨51, _⟩ => ⟨S500000x32, .f32⟩
  | .hbm, ⟨52, _⟩ => ⟨S_, .f32⟩
  | .hbm, ⟨53, _⟩ => ⟨S500000x32, .f32⟩
  | .hbm, ⟨54, _⟩ => ⟨S500000x32, .f32⟩
  | .hbm, ⟨55, _⟩ => ⟨S500000x32, .f32⟩
  | .hbm, ⟨56, _⟩ => ⟨S500000x32, .f32⟩
  | .hbm, ⟨57, _⟩ => ⟨S500000x32, .f32⟩
  | .hbm, ⟨58, _⟩ => ⟨S_, .f32⟩
  | .hbm, ⟨59, _⟩ => ⟨S500000, .f32⟩
  | .hbm, ⟨60, _⟩ => ⟨S500000x1, .f32⟩
  | .hbm, ⟨61, _⟩ => ⟨S500000x1, .f32⟩
  | .hbm, ⟨62, _⟩ => ⟨S500000x32, .f32⟩
  | .hbm, ⟨63, _⟩ => ⟨S500000x32, .f32⟩
  | .hbm, ⟨64, _⟩ => ⟨S500000, .i32⟩
  | .hbm, ⟨65, _⟩ => ⟨S_, .i32⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S_, .f32⟩
  | .hbm, ⟨70, _⟩ => ⟨S500000x32, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x32, .f32⟩
  | _, _ => ⟨S500000x83, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== Proof.KernelFrame.lean ====
/-
  The run of the kernel over machine words: every execution ends, the arguments are as launched and every semaphore
  counter is zero. The last block of the batch overhangs the array, so the lanes past the array's end hold words nothing
  names, and over machine words a matrix product is an opaque function of its whole operands. What the two result windows
  hold is therefore not stated here (the two windows are forgotten), which the claim does not need.
-/
module

public import proofs.«01_k».proof.Defs
public import proofs.«01_k».proof.Proof.KernelBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The batch block at point `t`, its columns past the array's end at the zero word. -/
def xblk (c : Dev nD) (t : Fin cfg0.N) : Vec F S83x36864 .f32 :=
  win0_0.fill (grid0.coords t) (fun _ => Scalar.ofBits .f32 0#32) (iblk m c 0 t)

/-- The proof data: every array at its contents on entry, every input left in place, the two outputs as the body
    computes them. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outZ (xblk m c t) (iblk m c 1 t) (iblk m c 2 t) (iblk m c 3 t) (iblk m c 4 t) (iblk m c 5 t) (iblk m c 6 t) (iblk m c 7 t)
    | ⟨9, _⟩ => outM (xblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

/-- The body finds the batch block in its buffer, with anything past the array's end. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d

/-- The windows whose contents are not stated: the two results'. -/
def fgt : Fin cfg0.W → Bool := fun w => match w with
  | ⟨8, _⟩ => true
  | ⟨9, _⟩ => true
  | _ => false

theorem fgt_0 : fgt (0 : Fin 10) = false := rfl
theorem fgt_1 : fgt (1 : Fin 10) = false := rfl
theorem fgt_2 : fgt (2 : Fin 10) = false := rfl
theorem fgt_3 : fgt (3 : Fin 10) = false := rfl
theorem fgt_4 : fgt (4 : Fin 10) = false := rfl
theorem fgt_5 : fgt (5 : Fin 10) = false := rfl
theorem fgt_6 : fgt (6 : Fin 10) = false := rfl
theorem fgt_7 : fgt (7 : Fin 10) = false := rfl
theorem fgt_8 : fgt (8 : Fin 10) = true := rfl
theorem fgt_9 : fgt (9 : Fin 10) = true := rfl

set_option maxHeartbeats 4000000 in
/-- The body's obligation at every point. -/
theorem body_obligation (c : Dev nD) :
    BodyObligationLoose (dats m 0 c) (defs₀ (F := F)) Variants.none () Set.univ fgt := fun t => by
  rw [bigSep_W0, bigSep_W0]
  simp only [fgt_0, fgt_1, fgt_2, fgt_3, fgt_4, fgt_5, fgt_6, fgt_7, fgt_8, fgt_9]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7]
  iapply (sound_kernel (F := F) c Set.univ (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (stage0_5 (cfg0.slots t 5)) (hstage0_5 _) (stage0_6 (cfg0.slots t 6)) (hstage0_6 _) (stage0_7 (cfg0.slots t 7)) (hstage0_7 _)
    (stage0_8 (cfg0.slots t 8)) (hstage0_8 _) (stage0_9 (cfg0.slots t 9)) (hstage0_9 _)
    (win0_0.fill (grid0.coords t) d0 (iblk m c 0 t)) (iblk m c 1 t) (iblk m c 2 t) (iblk m c 3 t) (iblk m c 4 t) (iblk m c 5 t)
    (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  iintro ⟨H0, H1, H2, H3, H4, H5, H6, H7, H8, H9⟩
  isplitl [HΦ]; · iexact HΦ
  isplitl [Ho]; · iexact Ho
  have hx : win0_0.cut (grid0.coords t) (xblk m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (xblk m c t)))
    rw [hx]; try iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  · iexists _; iexact H9

/-- The buffers the host lines after the region write. -/
def tailWritten : Finset (Ref sig .tc) := {main_c, main_v21, main_v22, main_v23, main_v24, main_v25}

theorem tail_written : ∀ ops ∈ ([hostOps1] : List (List (HloOp τ sig (Elt F)))), ∀ op ∈ ops, ∀ b : Ref sig .tc,
    Proc.devRef .tc b ∈ op.writes → b ∈ tailWritten := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
    (simp only [StableHlo.nullary_writes, StableHlo.unary_writes, StableHlo.binary_writes, StableHlo.ternary_writes,
      StableHlo.reshape_writes, Finset.mem_singleton] at hb
     obtain rfl := (by first | exact Proc.devRef_injective _ hb | simpa using hb : b = _)
     decide)

set_option backward.isDefEq.respectTransparency.types false in
/-- The run: the arrays the windows name, the other buffers as the region found them, the counters at zero. -/
theorem run_main : θ_run defs (onTc (τ := τ) (main (F := F))) (s₀ m ρ)
    (fun r => Pipeline.RDat.FramePostR cfg0 (fun c => (dats m 0 c).toRForget fgt) tailWritten (fun c b => V0 m c (Proc.devRef .tc b)) r
      ∧ r.2.sem = fun _ => 0) :=
  Pipeline.θ_run_frame_around_T_forget (Q' := _) cfgs (dats m) (0 : Fin 1) launch0 defs₀ Variants.none fgt tailWritten m ρ main
    (hbody := body_obligation m)
    (hshare := fun c => (dats m 0 c).share_full fun _ => rfl) (howed := fun _ _ => rfl)
    (V₀ := V0 m) (opss := [hostOps1]) sfx_sub sfx_fresh sfx_keeps tail_written
    (hmain := hmain m Variants.none) (hA := A_eq m) (hΦ := fun _ _ => rfl) (hQ' := fun _ h => h)

/-- An argument ends as launched: the host lines write none of the arguments. -/
theorem frame : Cert.quiescent_Kernel := by
  intro m ρ _
  refine (θ_run defs _ _).mono (fun r h => ⟨fun c => ?_, h.2⟩) (run_main (F := Bits) m ρ)
  have arg : ∀ b : Ref sig .tc, b ∈ Pipeline.restRefs sig spec0 → b ∉ tailWritten →
      r.2.mem ((c : Thread nD τ).loc b) = V m c b := fun b h1 h2 => (h.1 c).2 b (Finset.mem_sdiff.mpr ⟨h1, h2⟩)
  exact ⟨(arg main_arg0 (Pipeline.mem_restRefs_of main_arg0 (by decide) (by decide)) (by decide)).trans (V_main_arg0 m c),
    (arg main_arg1 (Pipeline.mem_restRefs_of main_arg1 (by decide) (by decide)) (by decide)).trans (V_main_arg1 m c),
    (arg main_arg2 (Pipeline.mem_restRefs_of main_arg2 (by decide) (by decide)) (by decide)).trans (V_main_arg2 m c),
    (arg main_arg3 (Pipeline.mem_restRefs_of main_arg3 (by decide) (by decide)) (by decide)).trans (V_main_arg3 m c),
    (arg main_arg4 (Pipeline.mem_restRefs_of main_arg4 (by decide) (by decide)) (by decide)).trans (V_main_arg4 m c),
    (arg main_arg5 (Pipeline.mem_restRefs_of main_arg5 (by decide) (by decide)) (by decide)).trans (V_main_arg5 m c),
    (arg main_arg6 (Pipeline.mem_restRefs_of main_arg6 (by decide) (by decide)) (by decide)).trans (V_main_arg6 m c),
    (arg main_arg7 (Pipeline.mem_restRefs_of main_arg7 (by decide) (by decide)) (by decide)).trans (V_main_arg7 m c)⟩

end Cert.Kernel.Run
-- ==== Proof.KernelIdealBody.lean ====
/-
  The body of the KernelIdeal kernel as a triple: run on any ten staging buffers, it leaves the eight inputs as they were,
  stores the normalised activations in the ninth and the row mask in the tenth. Each output is written once, by a store
  that covers its whole buffer, so what the buffer held before does not matter.
-/
module

public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The normalised activations the body stores, from the contents of its eight inputs. -/
def outZ (x0 : Vec F S83x36864 .f32) (x1 : Vec F S1x1 .f32) (x2 : Vec F S32x83 .f32) (x3 : Vec F S32x1 .f32)
    (x4 : Vec F S32x32 .f32) (x5 : Vec F S32x1 .f32) (x6 : Vec F S32x32 .f32) (x7 : Vec F S32x1 .f32) : Vec F S32x36864 .f32 :=
  k0_pay1 (k0_pay4 x0) (k0_pay5 x0 x1 x2 x3 x4 x5) (k0_pay6 x6) (constant S32x36864 .f32 0x00000000#32) x7

/-- The row mask it stores, which depends on the first input only. -/
def outM (x0 : Vec F S83x36864 .f32) : Vec F S1x36864 .i32 := k0_pay2 (k0_pay4 x0)

theorem zero2 : (![0, 0] : Fin 2 → Nat) = fun _ => 0 := funext fun a => by fin_cases a <;> rfl

/-- A load through the whole-buffer rectangle reads the buffer's contents. -/
theorem readAt_whole {sp : Space} {S : Shape} {e : EltTy} (v : View sig .tc sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- A store through it leaves its payload. -/
theorem read_writes_whole {sp : Space} {S : Shape} {e : EltTy} (v : View sig .tc sp S e) {off : Fin S.rank → Nat}
    (h : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w :=
  (View.read_writes_eq_canon v f _ fun y => ⟨_, List.mem_singleton.mpr rfl, View.mem_set_unit_zero h inb y⟩).trans
    (View.canon_unit_zero h inb w)

set_option maxHeartbeats 4000000 in
/-- The body on any ten staging buffers. -/
theorem sound_kernel (c : Dev nD) (E : Set ℕ) (i : grid0.Coords)
    (arg1 : Memref sig .tc .vmem S83x36864 .f32) (harg1 : arg1.IsWhole) (arg2 : Memref sig .tc .vmem S1x1 .f32) (harg2 : arg2.IsWhole)
    (arg3 : Memref sig .tc .vmem S32x83 .f32) (harg3 : arg3.IsWhole) (arg4 : Memref sig .tc .vmem S32x1 .f32) (harg4 : arg4.IsWhole)
    (arg5 : Memref sig .tc .vmem S32x32 .f32) (harg5 : arg5.IsWhole) (arg6 : Memref sig .tc .vmem S32x1 .f32) (harg6 : arg6.IsWhole)
    (arg7 : Memref sig .tc .vmem S32x32 .f32) (harg7 : arg7.IsWhole) (arg8 : Memref sig .tc .vmem S32x1 .f32) (harg8 : arg8.IsWhole)
    (arg9 : Memref sig .tc .vmem S32x36864 .f32) (harg9 : arg9.IsWhole) (arg10 : Memref sig .tc .vmem S1x36864 .i32) (harg10 : arg10.IsWhole)
    (x0 : Vec F S83x36864 .f32) (x1 : Vec F S1x1 .f32) (x2 : Vec F S32x83 .f32) (x3 : Vec F S32x1 .f32)
    (x4 : Vec F S32x32 .f32) (x5 : Vec F S32x1 .f32) (x6 : Vec F S32x32 .f32) (x7 : Vec F S32x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outZ x0 x1 x2 x3 x4 x5 x6 x7) ∗ owns (c : Thread nD τ) arg10 fullShare (outM x0)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10) K := by
  simp only [cc0__mlp_kernel_eq_skeleton]
  unfold cc0__mlp_kernel_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  have r0 := readAt_whole (F := F) (S := S83x36864) arg1.view zero2 inb_S83x36864_S83x36864_0_0 f0
  have r1 := readAt_whole (F := F) (S := S1x1) arg2.view zero2 inb_S1x1_S1x1_0_0 f1
  have r2 := readAt_whole (F := F) (S := S32x83) arg3.view zero2 inb_S32x83_S32x83_0_0 f2
  have r3 := readAt_whole (F := F) (S := S32x1) arg4.view zero2 inb_S32x1_S32x1_0_0 f3
  have r4 := readAt_whole (F := F) (S := S32x32) arg5.view zero2 inb_S32x32_S32x32_0_0 f4
  have r5 := readAt_whole (F := F) (S := S32x1) arg6.view zero2 inb_S32x1_S32x1_0_0 f5
  have r6 := readAt_whole (F := F) (S := S32x32) arg7.view zero2 inb_S32x32_S32x32_0_0 f6
  have r7 := readAt_whole (F := F) (S := S32x1) arg8.view zero2 inb_S32x1_S32x1_0_0 f7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr; swap; · iexact H8
    ipureintro
    refine (read_writes_whole _ zero2 _ _ _).trans ?_
    rfl
  · iexists _; isplitr; swap; · iexact H9
    ipureintro
    refine (read_writes_whole _ zero2 _ _ _).trans ?_
    rfl

end Cert.KernelIdeal.Run
-- ==== Proof.KernelIdealData.lean ====
/-
  The proof data of the kernel's run over the extended reals: what each window's buffer holds before and after the body.
  The last block of the batch overhangs the array; its columns past the array's end are named by the zero word here, and
  KernelIdealRun.lean shows that nothing written back depends on them.
-/
module

public import proofs.«01_k».proof.Defs
public import proofs.«01_k».proof.Proof.KernelIdealBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The batch block at point `t`, its columns past the array's end at the zero word. -/
def xblk (c : Dev nD) (t : Fin cfg0.N) : Vec F S83x36864 .f32 :=
  win0_0.fill (grid0.coords t) (fun _ => Scalar.ofBits .f32 0#32) (iblk m c 0 t)

/-- The proof data: every array at its contents on entry, every input left in place, the two outputs as the body
    computes them. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outZ (xblk m c t) (iblk m c 1 t) (iblk m c 2 t) (iblk m c 3 t) (iblk m c 4 t) (iblk m c 5 t) (iblk m c 6 t) (iblk m c 7 t)
    | ⟨9, _⟩ => outM (xblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

/-- The body finds the batch block in its buffer, with anything past the array's end. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d

end Cert.KernelIdeal.Run
-- ==== Proof.Math.lean ====
/-
  The network over the extended reals, one row at a time, in the two forms the programs compute it, and that the two
  forms agree.

  The plain form: three layers `gelu (x W + b)`, where `gelu h = (1/2) h erfc (-h s)` and `s` is any positive real, then
  a division by the row's length.

  The scaled form: `s` is folded into the weights and biases, so a layer computes `p = s h` and `p (1 + erf p)`, which is
  `2 s` times the plain layer's value. The next layer's weights carry a factor `1/2`, which turns `2 s` into `s` again.
  The last factor `2 s` leaves with the division by the length, since `rsqrt ((2 s)² S) = (2 s)⁻¹ rsqrt S` for `S ≥ 0`.
-/
module

public import Idealize.ShloMosaic.PureOps
public import Idealize.ShloMosaic.PureOps.Ideal.Laws

@[expose] public section

noncomputable section

namespace Cert.Mlp

open Idealize.ShloMosaic
open scoped BigOperators

/-- One half, as an extended real. -/
abbrev half : EReal := ((1 / 2 : ℝ) : EReal)

/-- The exact Gaussian unit with scale `s`. -/
def gelu (s h : EReal) : EReal := half * h * Ideal.erfc (-h * s)

/-- One row through a dense layer. -/
def dense {n k : ℕ} (W : Fin n → Fin k → EReal) (b : Fin k → EReal) (x : Fin n → EReal) (j : Fin k) : EReal :=
  (∑ i, x i * W i j) + b j

/-- One row through a dense layer and the unit. -/
def layer {n k : ℕ} (s : EReal) (W : Fin n → Fin k → EReal) (b : Fin k → EReal) (x : Fin n → EReal) (j : Fin k) : EReal :=
  gelu s (dense W b x j)

/-- The scaled form's layer, with the weights feature-major: `p (1 + erf p)` at `p = W x + b`. -/
def slayer {n k : ℕ} (W : Fin k → Fin n → EReal) (b : Fin k → EReal) (x : Fin n → EReal) (j : Fin k) : EReal :=
  ((∑ i, W j i * x i) + b j) * (1 + Ideal.erf ((∑ i, W j i * x i) + b j))

/-- A real factor at least zero goes into a sum. -/
theorem mul_sum {ι : Type} (t : Finset ι) {s : ℝ} (hs : 0 ≤ s) (f : ι → EReal) :
    (s : EReal) * ∑ i ∈ t, f i = ∑ i ∈ t, (s : EReal) * f i := by
  classical
  induction t using Finset.induction_on with
  | empty => simp
  | insert a t ha ih =>
    rw [Finset.sum_insert ha, Finset.sum_insert ha,
      EReal.left_distrib_of_nonneg_of_ne_top (EReal.coe_nonneg.mpr hs) (EReal.coe_ne_top s), ih]

/-- The scaled unit is `2 s` times the plain one. -/
theorem unit_scaled (s : ℝ) (h : EReal) :
    (s * h) * (1 + Ideal.erf (s * h)) = ((2 * s : ℝ) : EReal) * gelu s h := by
  have e : -h * (s : EReal) = -((s : EReal) * h) := by rw [EReal.neg_mul, mul_comm]
  have k : ((2 * s : ℝ) : EReal) * half = (s : EReal) := by
    rw [← EReal.coe_mul]; congr 1; ring
  unfold gelu
  rw [e, Ideal.erfc_neg, ← mul_assoc, ← mul_assoc, k]

/-- The first layer, `s` in its weights and biases. -/
theorem slayer_first {n k : ℕ} {s : ℝ} (hs : 0 ≤ s) (W : Fin n → Fin k → EReal) (b : Fin k → EReal) (x : Fin n → EReal) (j : Fin k) :
    slayer (fun j i => W i j * s) (fun j => b j * s) x j = ((2 * s : ℝ) : EReal) * layer s W b x j := by
  have e : (∑ i, W i j * (s : EReal) * x i) + b j * s = s * dense W b x j := by
    unfold dense
    rw [EReal.left_distrib_of_nonneg_of_ne_top (EReal.coe_nonneg.mpr hs) (EReal.coe_ne_top s), mul_sum _ hs, mul_comm (b j)]
    refine congrArg (· + (s : EReal) * b j) (Finset.sum_congr rfl fun i _ => ?_)
    rw [mul_comm (W i j), mul_assoc, mul_comm (W i j)]
  unfold slayer layer
  simp only [e]
  exact unit_scaled s _

/-- A later layer: its input carries `2 s`, its weights one half, its biases `s`. -/
theorem slayer_next {n k : ℕ} {s : ℝ} (hs : 0 ≤ s) (W : Fin n → Fin k → EReal) (b : Fin k → EReal) (x : Fin n → EReal) (j : Fin k) :
    slayer (fun j i => W i j * half) (fun j => b j * s) (fun i => ((2 * s : ℝ) : EReal) * x i) j
      = ((2 * s : ℝ) : EReal) * layer s W b x j := by
  rw [← slayer_first hs]
  have e : ∀ i, W i j * half * (((2 * s : ℝ) : EReal) * x i) = W i j * s * x i := fun i => by
    rw [mul_assoc, mul_assoc, ← mul_assoc half, ← EReal.coe_mul]
    congr 3; ring
  unfold slayer
  simp only [e]

/-- A square is not negative, infinite values included. -/
theorem mul_self_nonneg (x : EReal) : 0 ≤ x * x := by
  rcases le_total 0 x with h | h
  · exact mul_nonneg h h
  · have := mul_nonneg (EReal.neg_nonneg.mpr h) (EReal.neg_nonneg.mpr h)
    simpa using this

/-- `rsqrt (a² S) = a⁻¹ rsqrt S` for a positive real `a` and `S ≥ 0`. -/
theorem rsqrt_scaled {a : ℝ} (ha : 0 < a) {S : EReal} (hS : 0 ≤ S) :
    Ideal.rsqrt (((a * a : ℝ) : EReal) * S) = ((a⁻¹ : ℝ) : EReal) * Ideal.rsqrt S := by
  induction S with
  | bot => simp at hS
  | top =>
    rw [EReal.coe_mul_top_of_pos (mul_pos ha ha)]
    show (0 : EReal) = ((a⁻¹ : ℝ) : EReal) * 0
    rw [mul_zero]
  | coe r =>
    have hr : 0 ≤ r := EReal.coe_nonneg.mp hS
    rw [← EReal.coe_mul]
    show (if a * a * r < 0 then (⊥ : EReal) else if a * a * r = 0 then ⊤ else ((Real.sqrt (a * a * r))⁻¹ : ℝ))
      = ((a⁻¹ : ℝ) : EReal) * (if r < 0 then (⊥ : EReal) else if r = 0 then ⊤ else ((Real.sqrt r)⁻¹ : ℝ))
    have haa : a * a ≠ 0 := (mul_pos ha ha).ne'
    rw [if_neg (not_lt.mpr (mul_nonneg (mul_pos ha ha).le hr)), if_neg (not_lt.mpr hr)]
    by_cases h0 : r = 0
    · rw [if_pos (by rw [h0, mul_zero]), if_pos h0, EReal.coe_mul_top_of_pos (inv_pos.mpr ha)]
    · rw [if_neg (mul_ne_zero haa h0), if_neg h0, ← EReal.coe_mul, Real.sqrt_mul (mul_pos ha ha).le, Real.sqrt_mul_self ha.le, mul_inv]

/-- A row divided by its length, `2 s` on every entry or not. -/
theorem normalise_scaled {n : ℕ} {s : ℝ} (hs : 0 < s) (g : Fin n → EReal) (j : Fin n) :
    (((2 * s : ℝ) : EReal) * g j) * Ideal.rsqrt (∑ k, (((2 * s : ℝ) : EReal) * g k) * (((2 * s : ℝ) : EReal) * g k))
      = g j * Ideal.rsqrt (∑ k, g k * g k) := by
  have h2 : 0 < 2 * s := by positivity
  have e : (∑ k, (((2 * s : ℝ) : EReal) * g k) * (((2 * s : ℝ) : EReal) * g k)) = (((2 * s) * (2 * s) : ℝ) : EReal) * ∑ k, g k * g k := by
    rw [mul_sum _ (mul_pos h2 h2).le]
    refine Finset.sum_congr rfl fun k _ => ?_
    rw [EReal.coe_mul (2 * s) (2 * s), mul_mul_mul_comm]
  rw [e, rsqrt_scaled h2 (Finset.sum_nonneg fun k _ => mul_self_nonneg (g k)), mul_mul_mul_comm, ← EReal.coe_mul,
    mul_inv_cancel₀ h2.ne', EReal.coe_one, one_mul]

/-! ## The programs' constants -/

/-- The word of one half. -/
theorem half_word : Ideal.ofBits .f32 0x3F000000#32 = half := by
  unfold half
  simp [Ideal.ofBits, Ideal.ieee, -EReal.coe_mul]; norm_num

/-- The word both programs multiply by for the square root of one half: some positive real. -/
theorem root_word : ∃ s : ℝ, 0 < s ∧ Ideal.ofBits .f32 0x3F3504F3#32 = (s : EReal) := by
  refine ⟨_, ?_, rfl⟩
  rw [if_neg (by decide), one_mul]
  positivity

/-! ## The whole row -/

/-- The plain row: three layers and the division by the length. -/
def row (s : EReal) (W0 : Fin 83 → Fin 32 → EReal) (b0 : Fin 32 → EReal) (W1 : Fin 32 → Fin 32 → EReal) (b1 : Fin 32 → EReal)
    (W2 : Fin 32 → Fin 32 → EReal) (b2 : Fin 32 → EReal) (x : Fin 83 → EReal) (j : Fin 32) : EReal :=
  layer s W2 b2 (layer s W1 b1 (layer s W0 b0 x)) j
    * Ideal.rsqrt (∑ k, layer s W2 b2 (layer s W1 b1 (layer s W0 b0 x)) k * layer s W2 b2 (layer s W1 b1 (layer s W0 b0 x)) k)

/-- The scaled row's last layer, before the division. -/
def sact (W0 : Fin 32 → Fin 83 → EReal) (b0 : Fin 32 → EReal) (W1 : Fin 32 → Fin 32 → EReal) (b1 : Fin 32 → EReal)
    (W2 : Fin 32 → Fin 32 → EReal) (b2 : Fin 32 → EReal) (x : Fin 83 → EReal) : Fin 32 → EReal :=
  slayer W2 b2 (slayer W1 b1 (slayer W0 b0 x))

/-- The scaled row: the last layer times `k` and the reciprocal length, `k` the row's mask. -/
def srow (W0 : Fin 32 → Fin 83 → EReal) (b0 : Fin 32 → EReal) (W1 : Fin 32 → Fin 32 → EReal) (b1 : Fin 32 → EReal)
    (W2 : Fin 32 → Fin 32 → EReal) (b2 : Fin 32 → EReal) (x : Fin 83 → EReal) (k : EReal) (j : Fin 32) : EReal :=
  sact W0 b0 W1 b1 W2 b2 x j * (k * Ideal.rsqrt (∑ i, sact W0 b0 W1 b1 W2 b2 x i * sact W0 b0 W1 b1 W2 b2 x i))

variable {s : ℝ} (hs : 0 < s) (W0 : Fin 83 → Fin 32 → EReal) (b0 : Fin 32 → EReal) (W1 : Fin 32 → Fin 32 → EReal) (b1 : Fin 32 → EReal)
    (W2 : Fin 32 → Fin 32 → EReal) (b2 : Fin 32 → EReal) (x : Fin 83 → EReal)

include hs in
/-- The two forms of a row that the mask keeps agree. -/
theorem srow_one (j : Fin 32) :
    srow (fun j i => W0 i j * s) (fun j => b0 j * s) (fun j i => W1 i j * half) (fun j => b1 j * s)
      (fun j i => W2 i j * half) (fun j => b2 j * s) x 1 j = row s W0 b0 W1 b1 W2 b2 x j := by
  have e : sact (fun j i => W0 i j * s) (fun j => b0 j * s) (fun j i => W1 i j * half) (fun j => b1 j * s)
      (fun j i => W2 i j * half) (fun j => b2 j * s) x
      = fun j => ((2 * s : ℝ) : EReal) * layer s W2 b2 (layer s W1 b1 (layer s W0 b0 x)) j := by
    unfold sact
    rw [show slayer (fun j i => W0 i j * s) (fun j => b0 j * s) x = fun j => ((2 * s : ℝ) : EReal) * layer s W0 b0 x j from
        funext fun j => slayer_first hs.le W0 b0 x j,
      show slayer (fun j i => W1 i j * half) (fun j => b1 j * s) (fun j => ((2 * s : ℝ) : EReal) * layer s W0 b0 x j)
          = fun j => ((2 * s : ℝ) : EReal) * layer s W1 b1 (layer s W0 b0 x) j from
        funext fun j => slayer_next hs.le W1 b1 _ j]
    exact funext fun j => slayer_next hs.le W2 b2 _ j
  unfold srow row
  rw [e, one_mul]
  exact normalise_scaled hs _ j

/-- A row that the mask drops is zero in the scaled form, whatever its entries. -/
theorem srow_zero (W0 : Fin 32 → Fin 83 → EReal) (b0 : Fin 32 → EReal) (W1 : Fin 32 → Fin 32 → EReal) (b1 : Fin 32 → EReal)
    (W2 : Fin 32 → Fin 32 → EReal) (b2 : Fin 32 → EReal) (x : Fin 83 → EReal) (j : Fin 32) :
    srow W0 b0 W1 b1 W2 b2 x 0 j = 0 := by
  unfold srow; rw [zero_mul, mul_zero]

/-- A row with its zeros replaced by the shift `v`. -/
def filled (v : EReal) (x : Fin 83 → EReal) (i : Fin 83) : EReal := if x i = 0 then v else x i

/-- For entries at least zero, the sum is positive exactly when some entry is not zero. -/
theorem sum_pos_iff {n : ℕ} (x : Fin n → EReal) (hx : ∀ i, 0 ≤ x i) : 0 < ∑ i, x i ↔ ∃ i, x i ≠ 0 := by
  constructor
  · intro h
    by_contra hne
    push Not at hne
    rw [Finset.sum_eq_zero fun i _ => hne i] at h
    exact lt_irrefl _ h
  · rintro ⟨i, hi⟩
    exact lt_of_lt_of_le (lt_of_le_of_ne (hx i) (Ne.symm hi))
      (Finset.single_le_sum (f := x) (fun j _ => hx j) (Finset.mem_univ i))

end Cert.Mlp

end
-- ==== Proof.KernelIdealColumns.lean ====
/-
  What the body stores, over the extended reals, at one entry: a matrix product is a sum over the contracted axis, so an
  entry of either output depends on the entries of its own column of the batch block and on the weights. The two outputs
  at a column are the scaled row of Math.lean and its mask.
-/
module

public import proofs.«01_k».proof.Proof.KernelIdealBody
public import proofs.«01_k».proof.Proof.Math
public import Idealize.ShloMosaic.Lib.Pointwise

@[expose] public section

set_option maxRecDepth 16384

noncomputable section

namespace Cert.KernelIdeal.Run

open Cert.KernelIdeal Cert.KernelIdeal.Gen Cert.Mlp
open Idealize.ShloMosaic

/-- The mask of a column: whether its sum is positive. -/
def colMask (x : Fin 83 → EReal) : Bool := decide (0 < ∑ i, x i)

theorem pay4_apply (x0 : Vec Ideal S83x36864 .f32) (r : Fin 1) (c : Fin 36864) :
    k0_pay4 x0 (ix2 r c) = BitVec.ofBool (colMask fun i => x0 (ix2 i c)) := by
  pointwise [k0_pay4, k0_pay3]
  rfl

theorem pay5_apply (x0 : Vec Ideal S83x36864 .f32) (x1 : Vec Ideal S1x1 .f32) (x2 : Vec Ideal S32x83 .f32) (x3 : Vec Ideal S32x1 .f32)
    (x4 : Vec Ideal S32x32 .f32) (x5 : Vec Ideal S32x1 .f32) (r : Fin 32) (c : Fin 36864) :
    k0_pay5 x0 x1 x2 x3 x4 x5 (ix2 r c)
      = slayer (fun j i => x4 (ix2 j i)) (fun j => x5 (ix2 j 0))
          (slayer (fun j i => x2 (ix2 j i)) (fun j => x3 (ix2 j 0)) (filled (x1 (ix2 0 0)) fun i => x0 (ix2 i c))) r := by
  pointwise [k0_pay5, k0_pay3]
  rfl

theorem pay1_apply (k : IVec S1x36864 1) (y : FVec Ideal S32x36864 .f32) (x6 : Vec Ideal S32x32 .f32) (x7 : Vec Ideal S32x1 .f32) (r : Fin 32) (c : Fin 36864) :
    k0_pay1 k y (k0_pay6 x6) (constant S32x36864 .f32 0x00000000#32) x7 (ix2 r c)
      = slayer (fun j i => x6 (ix2 j i)) (fun j => x7 (ix2 j 0)) (fun i => y (ix2 i c)) r
        * ((if k (ix2 0 c) = 1#1 then 1 else 0) * Ideal.rsqrt (∑ j, slayer (fun j i => x6 (ix2 j i)) (fun j => x7 (ix2 j 0)) (fun i => y (ix2 i c)) j
          * slayer (fun j i => x6 (ix2 j i)) (fun j => x7 (ix2 j 0)) (fun i => y (ix2 i c)) j)) := by
  pointwise [k0_pay1, k0_pay6]
  rcases BitVec.eq_zero_or_eq_one (k (ix2 0 c)) with h | h
  · rw [h, if_neg (by decide), zero_mul, mul_zero]; rfl
  · rw [h, if_pos rfl, one_mul]; rfl

/-- The activations at an entry: the scaled row of its column. -/
theorem outZ_apply (x0 : Vec Ideal S83x36864 .f32) (x1 : Vec Ideal S1x1 .f32) (x2 : Vec Ideal S32x83 .f32) (x3 : Vec Ideal S32x1 .f32)
    (x4 : Vec Ideal S32x32 .f32) (x5 : Vec Ideal S32x1 .f32) (x6 : Vec Ideal S32x32 .f32) (x7 : Vec Ideal S32x1 .f32) (r : Fin 32) (c : Fin 36864) :
    outZ x0 x1 x2 x3 x4 x5 x6 x7 (ix2 r c)
      = srow (fun j i => x2 (ix2 j i)) (fun j => x3 (ix2 j 0)) (fun j i => x4 (ix2 j i)) (fun j => x5 (ix2 j 0))
          (fun j i => x6 (ix2 j i)) (fun j => x7 (ix2 j 0)) (filled (x1 (ix2 0 0)) fun i => x0 (ix2 i c))
          (if colMask (fun i => x0 (ix2 i c)) then 1 else 0) r := by
  unfold outZ srow sact
  rw [pay1_apply, pay4_apply]
  simp only [pay5_apply]
  cases colMask fun i => x0 (ix2 i c) <;> rfl

/-- The stored mask at an entry. -/
theorem outM_apply (x0 : Vec Ideal S83x36864 .f32) (r : Fin 1) (c : Fin 36864) :
    outM x0 (ix2 r c) = if colMask (fun i => x0 (ix2 i c)) then 1#32 else 0#32 := by
  unfold outM
  pointwise [k0_pay2]
  rw [pay4_apply]
  cases colMask fun i => x0 (ix2 i c) <;> rfl

end Cert.KernelIdeal.Run
-- ==== Proof.KernelIdealRun.lean ====
/-
  The run of the kernel over the extended reals with its results stated. The last block of the batch overhangs the array,
  so its columns past the array's end hold words nothing names; a column of either output depends on its own column of the
  batch alone (KernelIdealColumns.lean), so what is written back does not depend on those words.
-/
module

public import proofs.«01_k».proof.Proof.KernelIdealData
public import proofs.«01_k».proof.Proof.KernelIdealColumns

@[expose] public section

set_option maxRecDepth 16384

noncomputable section

namespace Cert.KernelIdeal.Run

open Cert.KernelIdeal Cert.KernelIdeal.Gen Cert.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Columns inside the array -/

theorem xsize_0_0 : ∀ t : Fin cfg0.N, win0_0.xsize (grid0.coords t) 0 = 83 := by decide +kernel
theorem xsize_8_1 : ∀ t : Fin cfg0.N, win0_8.xsize (grid0.coords t) 1 = win0_0.xsize (grid0.coords t) 1 := by decide +kernel
theorem xsize_9_1 : ∀ t : Fin cfg0.N, win0_9.xsize (grid0.coords t) 1 = win0_0.xsize (grid0.coords t) 1 := by decide +kernel

/-- An index of the batch block whose column is inside the array is inside. -/
theorem moved_col (t : Fin cfg0.N) (k : Fin 83) (c : Fin 36864) (h : c.val < win0_0.xsize (grid0.coords t) 1) :
    ∀ a, (ix2 k c a).val < win0_0.xsize (grid0.coords t) a := by
  intro a
  match a with
  | ⟨0, _⟩ => exact lt_of_lt_of_eq k.isLt (xsize_0_0 t).symm
  | ⟨1, _⟩ => exact h

/-- The batch block at an entry whose column is inside the array: what the fetch read. -/
theorem fill_col (t : Fin cfg0.N) (d : Vec Ideal S83x36864 .f32) (g : (win0_0.xblock (grid0.coords t)).Idx → EReal)
    (k : Fin 83) (c : Fin 36864) (h : c.val < win0_0.xsize (grid0.coords t) 1) :
    win0_0.fill (grid0.coords t) d g (ix2 k c)
      = g fun a => ⟨(ix2 k c a).val, moved_col t k c h a⟩ := by
  unfold Window.fill
  exact dif_pos ((win0_0.moved_iff _ _).mpr (moved_col t k c h))

/-- An index of an output block, as its row and its column. -/
theorem exists_ix2 {n p : Nat} (y : Shape.Idx ⟨2, ![n, p]⟩) : ∃ (r : Fin n) (q : Fin p), y = ix2 r q :=
  ⟨y 0, y 1, funext fun a => match a with | ⟨0, _⟩ => rfl | ⟨1, _⟩ => rfl⟩

/-- An entry of the activations depends on its own column of the batch block. -/
theorem outZ_local (x x' : Vec Ideal S83x36864 .f32)
    (x1 : Vec Ideal S1x1 .f32) (x2 : Vec Ideal S32x83 .f32) (x3 : Vec Ideal S32x1 .f32) (x4 : Vec Ideal S32x32 .f32)
    (x5 : Vec Ideal S32x1 .f32) (x6 : Vec Ideal S32x32 .f32) (x7 : Vec Ideal S32x1 .f32) (y : S32x36864.Idx)
    (h : ∀ k : Fin 83, x (ix2 k (y 1)) = x' (ix2 k (y 1))) :
    outZ x x1 x2 x3 x4 x5 x6 x7 y = outZ x' x1 x2 x3 x4 x5 x6 x7 y := by
  obtain ⟨r, q, rfl⟩ := exists_ix2 y
  have h' : ∀ k : Fin 83, x (ix2 k q) = x' (ix2 k q) := h
  rw [outZ_apply, outZ_apply]
  simp only [h']

/-- And so does an entry of the mask. -/
theorem outM_local (x x' : Vec Ideal S83x36864 .f32) (y : S1x36864.Idx)
    (h : ∀ k : Fin 83, x (ix2 k (y 1)) = x' (ix2 k (y 1))) : outM x y = outM x' y := by
  obtain ⟨r, q, rfl⟩ := exists_ix2 y
  have h' : ∀ k : Fin 83, x (ix2 k q) = x' (ix2 k q) := h
  rw [outM_apply, outM_apply]
  simp only [h']

/-- The part of the activations written back does not depend on the batch block past the array's end. -/
theorem cut_outZ (t : Fin cfg0.N) (d d' : Vec Ideal S83x36864 .f32) (g : (win0_0.xblock (grid0.coords t)).Idx → EReal)
    (x1 : Vec Ideal S1x1 .f32) (x2 : Vec Ideal S32x83 .f32) (x3 : Vec Ideal S32x1 .f32) (x4 : Vec Ideal S32x32 .f32)
    (x5 : Vec Ideal S32x1 .f32) (x6 : Vec Ideal S32x32 .f32) (x7 : Vec Ideal S32x1 .f32) :
    win0_8.cut (grid0.coords t) (outZ (win0_0.fill (grid0.coords t) d g) x1 x2 x3 x4 x5 x6 x7)
      = win0_8.cut (grid0.coords t) (outZ (win0_0.fill (grid0.coords t) d' g) x1 x2 x3 x4 x5 x6 x7) := by
  funext j
  have hc : (win0_8.xinj (grid0.coords t) j 1).val < win0_0.xsize (grid0.coords t) 1 := lt_of_lt_of_eq (j 1).isLt (xsize_8_1 t)
  exact outZ_local _ _ _ _ _ _ _ _ _ _ fun k => (fill_col t d g k _ hc).trans (fill_col t d' g k _ hc).symm

/-- Nor does the part of the mask. -/
theorem cut_outM (t : Fin cfg0.N) (d d' : Vec Ideal S83x36864 .f32) (g : (win0_0.xblock (grid0.coords t)).Idx → EReal) :
    win0_9.cut (grid0.coords t) (outM (win0_0.fill (grid0.coords t) d g))
      = win0_9.cut (grid0.coords t) (outM (win0_0.fill (grid0.coords t) d' g)) := by
  funext j
  have hc : (win0_9.xinj (grid0.coords t) j 1).val < win0_0.xsize (grid0.coords t) 1 := lt_of_lt_of_eq (j 1).isLt (xsize_9_1 t)
  exact outM_local _ _ _ fun k => (fill_col t d g k _ hc).trans (fill_col t d' g k _ hc).symm

/-! ## The run -/

set_option maxHeartbeats 4000000 in
/-- The body's obligation at every point, the two results' buffers stated on the columns inside the array. -/
theorem body_obligation_exact (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7]
  iapply (sound_kernel (F := Ideal) c Set.univ (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (stage0_5 (cfg0.slots t 5)) (hstage0_5 _) (stage0_6 (cfg0.slots t 6)) (hstage0_6 _) (stage0_7 (cfg0.slots t 7)) (hstage0_7 _)
    (stage0_8 (cfg0.slots t 8)) (hstage0_8 _) (stage0_9 (cfg0.slots t 9)) (hstage0_9 _)
    (win0_0.fill (grid0.coords t) d0 (iblk m c 0 t)) (iblk m c 1 t) (iblk m c 2 t) (iblk m c 3 t) (iblk m c 4 t) (iblk m c 5 t)
    (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  have hx : win0_0.cut (grid0.coords t) (xblk m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (xblk m c t)))
    rw [hx]; try iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists outZ (win0_0.fill (grid0.coords t) d0 (iblk m c 0 t)) (iblk m c 1 t) (iblk m c 2 t) (iblk m c 3 t) (iblk m c 4 t)
      (iblk m c 5 t) (iblk m c 6 t) (iblk m c 7 t)
    change _ ⊢ owns (c : Thread nD τ) (stage0_8 (cfg0.slots t 8)) fullShare (win0_8.fill (grid0.coords t)
      (outZ (win0_0.fill (grid0.coords t) d0 (iblk m c 0 t)) (iblk m c 1 t) (iblk m c 2 t) (iblk m c 3 t) (iblk m c 4 t)
        (iblk m c 5 t) (iblk m c 6 t) (iblk m c 7 t))
      (win0_8.cut (grid0.coords t) (outZ (xblk m c t) (iblk m c 1 t) (iblk m c 2 t) (iblk m c 3 t) (iblk m c 4 t)
        (iblk m c 5 t) (iblk m c 6 t) (iblk m c 7 t))))
    unfold xblk
    rw [cut_outZ t _ d0, win0_8.fill_cut]; try iexact H8
  · iexists outM (win0_0.fill (grid0.coords t) d0 (iblk m c 0 t))
    change _ ⊢ owns (c : Thread nD τ) (stage0_9 (cfg0.slots t 9)) fullShare (win0_9.fill (grid0.coords t)
      (outM (win0_0.fill (grid0.coords t) d0 (iblk m c 0 t))) (win0_9.cut (grid0.coords t) (outM (xblk m c t))))
    unfold xblk
    rw [cut_outM t _ d0, win0_9.fill_cut]; try iexact H9

set_option backward.isDefEq.respectTransparency.types false in
/-- The run: every array at what the blocks written back leave, the later host lines run over them, the counters zero. -/
theorem run_exact : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation_exact m c)) (hshare := fun c => (dats m 0 c).share_full fun _ => rfl) (howed := fun _ _ => rfl)
    (V₀ := V0 m) (opss := [hostOps1]) sfx_sub sfx_fresh sfx_keeps
    (hmain := hmain m Variants.none) (hA := A_eq m) (hΦ := fun _ _ => rfl) (Q' := _) (hQ' := fun _ h => h)

end Cert.KernelIdeal.Run
-- ==== Proof.KernelIdealHost.lean ====
/-
  The host lines before the kernel, entry by entry: the batch and the weights are transposed, the first layer's weights and
  every bias are multiplied by the root's word, the later layers' weights by the half's.
-/
module

public import proofs.«01_k».proof.Proof.KernelIdealData
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

variable (m : (ℓ : Loc nD τ sig) → Buf (Elt Ideal) ℓ) (c : Dev nD)

/-! The arguments as launched. -/

abbrev arg0 : Vec Ideal S500000x83 .f32 := m ((c : Thread nD τ).loc main_arg0)
abbrev arg1 : Vec Ideal S_ .f32 := m ((c : Thread nD τ).loc main_arg1)
abbrev arg2 : Vec Ideal S83x32 .f32 := m ((c : Thread nD τ).loc main_arg2)
abbrev arg3 : Vec Ideal S32 .f32 := m ((c : Thread nD τ).loc main_arg3)
abbrev arg4 : Vec Ideal S32x32 .f32 := m ((c : Thread nD τ).loc main_arg4)
abbrev arg5 : Vec Ideal S32 .f32 := m ((c : Thread nD τ).loc main_arg5)
abbrev arg6 : Vec Ideal S32x32 .f32 := m ((c : Thread nD τ).loc main_arg6)
abbrev arg7 : Vec Ideal S32 .f32 := m ((c : Thread nD τ).loc main_arg7)

/-! The arrays the kernel reads. -/

def in0 : Vec Ideal S83x500000 .f32 := V m c main_v0
def in1 : Vec Ideal S1x1 .f32 := V m c main_v1
def in2 : Vec Ideal S32x83 .f32 := V m c main_v4
def in3 : Vec Ideal S32x1 .f32 := V m c main_v13
def in4 : Vec Ideal S32x32 .f32 := V m c main_v7
def in5 : Vec Ideal S32x1 .f32 := V m c main_v16
def in6 : Vec Ideal S32x32 .f32 := V m c main_v10
def in7 : Vec Ideal S32x1 .f32 := V m c main_v19

theorem in0_apply (k : Fin 83) (i : Fin 500000) : in0 m c (ix2 k i) = arg0 m c (ix2 i k) := by
  unfold in0 V V0 hostOps0
  simp only [List.flatten_cons, List.flatten_nil, List.append_nil]
  after_results_simp
  pointwise []

theorem in1_apply : in1 m c (ix2 0 0) = arg1 m c ix0 := by
  unfold in1 V V0 hostOps0
  simp only [List.flatten_cons, List.flatten_nil, List.append_nil]
  after_results_simp
  pointwise []

theorem in2_apply (j : Fin 32) (k : Fin 83) : in2 m c (ix2 j k) = arg2 m c (ix2 k j) * Ideal.ofBits .f32 0x3F3504F3#32 := by
  unfold in2 V V0 hostOps0
  simp only [List.flatten_cons, List.flatten_nil, List.append_nil]
  after_results_simp
  pointwise []

theorem in3_apply (j : Fin 32) : in3 m c (ix2 j 0) = arg3 m c (ix1 j) * Ideal.ofBits .f32 0x3F3504F3#32 := by
  unfold in3 V V0 hostOps0
  simp only [List.flatten_cons, List.flatten_nil, List.append_nil]
  after_results_simp
  pointwise []

theorem in4_apply (j k : Fin 32) : in4 m c (ix2 j k) = arg4 m c (ix2 k j) * Ideal.ofBits .f32 0x3F000000#32 := by
  unfold in4 V V0 hostOps0
  simp only [List.flatten_cons, List.flatten_nil, List.append_nil]
  after_results_simp
  pointwise []

theorem in5_apply (j : Fin 32) : in5 m c (ix2 j 0) = arg5 m c (ix1 j) * Ideal.ofBits .f32 0x3F3504F3#32 := by
  unfold in5 V V0 hostOps0
  simp only [List.flatten_cons, List.flatten_nil, List.append_nil]
  after_results_simp
  pointwise []

theorem in6_apply (j k : Fin 32) : in6 m c (ix2 j k) = arg6 m c (ix2 k j) * Ideal.ofBits .f32 0x3F000000#32 := by
  unfold in6 V V0 hostOps0
  simp only [List.flatten_cons, List.flatten_nil, List.append_nil]
  after_results_simp
  pointwise []

theorem in7_apply (j : Fin 32) : in7 m c (ix2 j 0) = arg7 m c (ix1 j) * Ideal.ofBits .f32 0x3F3504F3#32 := by
  unfold in7 V V0 hostOps0
  simp only [List.flatten_cons, List.flatten_nil, List.append_nil]
  after_results_simp
  pointwise []

end Cert.KernelIdeal.Run
-- ==== Proof.KernelIdealArrays.lean ====
/-
  The two arrays the kernel leaves, entry by entry: the fourteen blocks written back cover each array, and each block's
  entry is the scaled row (Math.lean) of its own column of the batch.
-/
module

public import proofs.«01_k».proof.Proof.KernelIdealRun
public import proofs.«01_k».proof.Proof.KernelIdealHost
public import Idealize.ShloMosaic.Lib.Pipeline.ValueKit

@[expose] public section

set_option maxRecDepth 16384

noncomputable section

namespace Cert.KernelIdeal.Run

open Cert.KernelIdeal Cert.KernelIdeal.Gen Cert.Mlp
open Idealize.ShloMosaic Idealize.ShloMosaic.TcCoe
open Idealize.ShloMosaic.Pipeline (Dat Cfg Window)

variable (m : (ℓ : Loc nD τ sig) → Buf (Elt Ideal) ℓ) (c : Dev nD)

/-- The activations of a column `x` of the batch, through the weights the kernel reads. -/
def actCol (x : Fin 83 → EReal) (j : Fin 32) : EReal :=
  srow (fun j i => in2 m c (ix2 j i)) (fun j => in3 m c (ix2 j 0)) (fun j i => in4 m c (ix2 j i)) (fun j => in5 m c (ix2 j 0))
    (fun j i => in6 m c (ix2 j i)) (fun j => in7 m c (ix2 j 0)) (filled (in1 m c (ix2 0 0)) x) (if colMask x then 1 else 0) j

/-! ## The blocks read -/

theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_0 : ∀ t : Fin cfg0.N, win0_0.index t = ![0, t.val] := by decide +kernel
theorem index_8 : ∀ t : Fin cfg0.N, win0_8.index t = ![0, t.val] := by decide +kernel
theorem index_9 : ∀ t : Fin cfg0.N, win0_9.index t = ![0, t.val] := by decide +kernel

theorem iblk_1 (t : Fin cfg0.N) : (iblk m c 1 t : Vec Ideal S1x1 .f32) = in1 m c := by
  funext y; show V m c main_v1 ((win0_1.blk t).view.emb y) = V m c main_v1 y
  exact congrArg _ (by blk_ext [index_1 t])
theorem iblk_2 (t : Fin cfg0.N) : (iblk m c 2 t : Vec Ideal S32x83 .f32) = in2 m c := by
  funext y; show V m c main_v4 ((win0_2.blk t).view.emb y) = V m c main_v4 y
  exact congrArg _ (by blk_ext [index_2 t])
theorem iblk_3 (t : Fin cfg0.N) : (iblk m c 3 t : Vec Ideal S32x1 .f32) = in3 m c := by
  funext y; show V m c main_v13 ((win0_3.blk t).view.emb y) = V m c main_v13 y
  exact congrArg _ (by blk_ext [index_3 t])
theorem iblk_4 (t : Fin cfg0.N) : (iblk m c 4 t : Vec Ideal S32x32 .f32) = in4 m c := by
  funext y; show V m c main_v7 ((win0_4.blk t).view.emb y) = V m c main_v7 y
  exact congrArg _ (by blk_ext [index_4 t])
theorem iblk_5 (t : Fin cfg0.N) : (iblk m c 5 t : Vec Ideal S32x1 .f32) = in5 m c := by
  funext y; show V m c main_v16 ((win0_5.blk t).view.emb y) = V m c main_v16 y
  exact congrArg _ (by blk_ext [index_5 t])
theorem iblk_6 (t : Fin cfg0.N) : (iblk m c 6 t : Vec Ideal S32x32 .f32) = in6 m c := by
  funext y; show V m c main_v10 ((win0_6.blk t).view.emb y) = V m c main_v10 y
  exact congrArg _ (by blk_ext [index_6 t])
theorem iblk_7 (t : Fin cfg0.N) : (iblk m c 7 t : Vec Ideal S32x1 .f32) = in7 m c := by
  funext y; show V m c main_v19 ((win0_7.blk t).view.emb y) = V m c main_v19 y
  exact congrArg _ (by blk_ext [index_7 t])

/-- The batch block at an entry whose column is inside the array: the batch at the block's column there. -/
theorem xblk_apply (t : Fin cfg0.N) (k : Fin 83) (q : Fin 36864) (h : q.val < win0_0.xsize (grid0.coords t) 1)
    (i : Fin 500000) (hi : i.val = t.val * 36864 + q.val) : xblk m c t (ix2 k q) = in0 m c (ix2 k i) := by
  unfold xblk
  rw [fill_col t _ _ k q h]
  show V m c main_v0 ((win0_0.blk t).view.emb _) = V m c main_v0 _
  refine congrArg _ (funext fun a => Fin.ext ?_)
  match a with
  | ⟨0, _⟩ =>
    show ((win0_0.blk t).view.emb _ (0 : Fin 2)).val = k.val
    blk_simp [index_0 t]
  | ⟨1, _⟩ =>
    show ((win0_0.blk t).view.emb _ (1 : Fin 2)).val = i.val
    blk_simp [index_0 t]
    rw [hi]

/-! ## The arrays -/

theorem arr_8 : (dats m 0 c).arrAt 8 cfg0.N
    = ((fun y : S32x500000.Idx => actCol m c (fun k => in0 m c (ix2 k (y 1))) (y 0)) : Vec Ideal S32x500000 .f32) := by
  refine (dats m 0 c).arrAt_eq_of_covers 8 _ (by decide +kernel) fun t _ y => ?_
  have hc : (win0_8.xinj (grid0.coords t) y 1).val < win0_0.xsize (grid0.coords t) 1 := lt_of_lt_of_eq (y 1).isLt (xsize_8_1 t)
  have e0 : (((win0_8.blk t).view.emb y 0).val) = (y 0).val := by blk_simp [index_8 t]
  have e1 : (((win0_8.blk t).view.emb y 1).val) = t.val * 36864 + (y 1).val := by blk_simp [index_8 t]
  show outZ (xblk m c t) (iblk m c 1 t) (iblk m c 2 t) (iblk m c 3 t) (iblk m c 4 t) (iblk m c 5 t) (iblk m c 6 t) (iblk m c 7 t)
    (win0_8.xinj (grid0.coords t) y) = actCol m c (fun k => in0 m c (ix2 k ((win0_8.blk t).view.emb y 1))) ((win0_8.blk t).view.emb y 0)
  have hr : (win0_8.blk t).view.emb y 0 = (win0_8.xinj (grid0.coords t) y 0 : Fin 32) := Fin.ext e0
  have hx := fun k : Fin 83 => xblk_apply m c t k (win0_8.xinj (grid0.coords t) y 1) hc ((win0_8.blk t).view.emb y 1) e1
  have hz := outZ_apply (xblk m c t) (iblk m c 1 t) (iblk m c 2 t) (iblk m c 3 t) (iblk m c 4 t) (iblk m c 5 t) (iblk m c 6 t)
    (iblk m c 7 t) (win0_8.xinj (grid0.coords t) y 0) (win0_8.xinj (grid0.coords t) y 1)
  simp only [hx] at hz
  rw [iblk_1 m c t, iblk_2 m c t, iblk_3 m c t, iblk_4 m c t, iblk_5 m c t, iblk_6 m c t, iblk_7 m c t] at hz ⊢
  rw [hr]
  refine Eq.trans (congrArg _ ?_) hz
  funext a
  match a with
  | ⟨0, _⟩ => rfl
  | ⟨1, _⟩ => rfl

theorem arr_9 : (dats m 0 c).arrAt 9 cfg0.N
    = ((fun y : S1x500000.Idx => if colMask (fun k => in0 m c (ix2 k (y 1))) then 1#32 else 0#32) : Vec Ideal S1x500000 .i32) := by
  refine (dats m 0 c).arrAt_eq_of_covers 9 _ (by decide +kernel) fun t _ y => ?_
  have hc : (win0_9.xinj (grid0.coords t) y 1).val < win0_0.xsize (grid0.coords t) 1 := lt_of_lt_of_eq (y 1).isLt (xsize_9_1 t)
  have e1 : (((win0_9.blk t).view.emb y 1).val) = t.val * 36864 + (y 1).val := by blk_simp [index_9 t]
  show outM (xblk m c t) (win0_9.xinj (grid0.coords t) y)
    = if colMask (fun k => in0 m c (ix2 k ((win0_9.blk t).view.emb y 1))) then 1#32 else 0#32
  have hx := fun k : Fin 83 => xblk_apply m c t k (win0_9.xinj (grid0.coords t) y 1) hc ((win0_9.blk t).view.emb y 1) e1
  have hz := outM_apply (xblk m c t) (win0_9.xinj (grid0.coords t) y 0) (win0_9.xinj (grid0.coords t) y 1)
  simp only [hx] at hz
  refine Eq.trans (congrArg _ ?_) hz
  funext a
  match a with
  | ⟨0, _⟩ => rfl
  | ⟨1, _⟩ => rfl

end Cert.KernelIdeal.Run
-- ==== Proof.KernelIdealValue.lean ====
/-
  The kernel's two results, entry by entry: the host lines after the kernel transpose the activations and compare the mask
  with zero.
-/
module

public import proofs.«01_k».proof.Proof.KernelIdealArrays

@[expose] public section

set_option maxRecDepth 16384

noncomputable section

namespace Cert.KernelIdeal.Run

open Cert.KernelIdeal Cert.KernelIdeal.Gen Cert.Mlp
open Idealize.ShloMosaic Idealize.ShloMosaic.TcCoe Idealize.SL.Sem

theorem tail_v24 (W : Valuation τ sig (Elt Ideal)) (i : Fin 500000) (j : Fin 32) :
    (StableHlo.after hostOps1 W (Proc.devRef .tc main_v24) : Vec Ideal S500000x32 .f32) (ix2 i j)
      = (W (Proc.devRef .tc main_v20_0) : Vec Ideal S32x500000 .f32) (ix2 j i) := by
  unfold hostOps1
  after_results_simp
  pointwise []

theorem tail_v25 (W : Valuation τ sig (Elt Ideal)) (i : Fin 500000) :
    (StableHlo.after hostOps1 W (Proc.devRef .tc main_v25) : Vec Ideal S500000 .i1) (ix1 i)
      = IntOp.cmpi .ne ((W (Proc.devRef .tc main_v20_1) : Vec Ideal S1x500000 .i32) (ix2 0 i)) 0#32 := by
  unfold hostOps1
  after_results_simp
  pointwise []
  rfl

variable (m : (ℓ : Loc nD τ sig) → Buf (Elt Ideal) ℓ) (ρ : Dev nD → PrngReg) (c : Dev nD)

/-- What the two results hold after the run. -/
abbrev out0 : Vec Ideal S500000x32 .f32 := Pipeline.afterTail₀ cfgs (dats m) 0 (V0 m) [hostOps1] c main_v24
abbrev out1 : Vec Ideal S500000 .i1 := Pipeline.afterTail₀ cfgs (dats m) 0 (V0 m) [hostOps1] c main_v25

theorem out0_apply (i : Fin 500000) (j : Fin 32) :
    out0 m c (ix2 i j) = actCol m c (fun k => arg0 m c (ix2 i k)) j := by
  unfold out0 Pipeline.afterTail₀
  refine (tail_v24 (Pipeline.withArrays spec0 c (V0 m c) fun w => (dats m 0 c).arrAt w cfg0.N) i j).trans ?_
  refine (congrFun ((Pipeline.withArrays_arr spec0 launch0.win.arr_inj c (V0 m c) (fun w => (dats m 0 c).arrAt w cfg0.N) 8).trans (arr_8 m c)) (ix2 j i)).trans ?_
  show actCol m c (fun k => in0 m c (ix2 k i)) j = _
  simp only [in0_apply]

theorem out1_apply (i : Fin 500000) :
    out1 m c (ix1 i) = BitVec.ofBool (colMask fun k => arg0 m c (ix2 i k)) := by
  unfold out1 Pipeline.afterTail₀
  refine (tail_v25 (Pipeline.withArrays spec0 c (V0 m c) fun w => (dats m 0 c).arrAt w cfg0.N) i).trans ?_
  have h := congrFun ((Pipeline.withArrays_arr spec0 launch0.win.arr_inj c (V0 m c) (fun w => (dats m 0 c).arrAt w cfg0.N) 9).trans (arr_9 m c)) (ix2 0 i)
  refine (congrArg (fun z => IntOp.cmpi .ne z 0#32) h).trans ?_
  show IntOp.cmpi .ne (if colMask (fun k => in0 m c (ix2 k i)) then 1#32 else 0#32) 0#32 = _
  simp only [in0_apply]
  cases colMask fun k => arg0 m c (ix2 i k) <;> decide

/-- The run: the two results at these values, the arguments as launched. -/
theorem run_value : θ_run defs (onTc (τ := τ) (main (F := Ideal))) (s₀ m ρ) (fun r => ∀ c : Dev nD,
    r.2.mem ((c : Thread nD τ).loc main_v24) = out0 m c ∧ r.2.mem ((c : Thread nD τ).loc main_v25) = out1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c =>
    ⟨(h.1 c).2 main_v24 (Pipeline.mem_restRefs_of main_v24 (by decide) (by decide)),
      (h.1 c).2 main_v25 (Pipeline.mem_restRefs_of main_v25 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c)⟩) (run_exact m ρ)

/-- Every execution ends with the arguments as launched and every counter at zero. -/
theorem frame : Cert.quiescent_KernelIdeal := fun m ρ _ =>
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c)⟩, h.2⟩)
    (run_exact m ρ)

/-- The activations of a row of the batch, in the arguments: the plain row where the row's sum is positive, zero elsewhere. -/
theorem actCol_eq (x : Fin 83 → EReal) (j : Fin 32) :
    actCol m c x j = if colMask x then row (Ideal.ofBits .f32 0x3F3504F3#32) (fun i j => arg2 m c (ix2 i j)) (fun j => arg3 m c (ix1 j))
      (fun i j => arg4 m c (ix2 i j)) (fun j => arg5 m c (ix1 j)) (fun i j => arg6 m c (ix2 i j)) (fun j => arg7 m c (ix1 j))
      (filled (arg1 m c ix0) x) j else 0 := by
  unfold actCol
  simp only [in1_apply, in2_apply, in3_apply, in4_apply, in5_apply, in6_apply, in7_apply]
  split
  · obtain ⟨s, hs, e⟩ := root_word
    rw [e, half_word]
    exact srow_one hs _ _ _ _ _ _ _ j
  · exact srow_zero _ _ _ _ _ _ _ j

end Cert.KernelIdeal.Run
-- ==== Proof.ReferenceRows.lean ====
/-
  The reference's normalised activations, read at an entry: the row's three layers, divided by their length.
-/
module

public import proofs.«01_k».proof.Proof.Gen.ReferenceIdeal
public import proofs.«01_k».proof.Proof.Gen.ReferenceIdeal.Read
public import proofs.«01_k».proof.Proof.Math
public import Idealize.ShloMosaic.Lib.Pointwise

@[expose] public section

set_option maxRecDepth 16384

noncomputable section

namespace Cert.ReferenceIdeal.Rows

open Cert.ReferenceIdeal Cert.ReferenceIdeal.Gen Cert.ReferenceIdeal.Read Cert.Mlp
open Idealize.ShloMosaic

/-- The word both programs use for the square root of one half, as a real. -/
def sW : EReal := Ideal.ofBits .f32 0x3F3504F3#32

variable (x0 : Vec Ideal S500000x83 .f32) (x1 : Vec Ideal S_ .f32) (x2 : Vec Ideal S83x32 .f32) (x3 : Vec Ideal S32 .f32)
    (x4 : Vec Ideal S32x32 .f32) (x5 : Vec Ideal S32 .f32) (x6 : Vec Ideal S32x32 .f32) (x7 : Vec Ideal S32 .f32)

theorem v5_apply (i : Fin 500000) (k : Fin 83) :
    val_main_v5 (F := Ideal) x0 x1 (ix2 i k) = filled (x1 ix0) (fun k => x0 (ix2 i k)) k := by
  pointwise [val_main_v5, val_main_v4, val_main_call0_v0, val_main_v3, val_main_cst_0]
  rfl

theorem v16_apply (i : Fin 500000) (j : Fin 32) :
    val_main_v16 (F := Ideal) x0 x1 x2 x3 (ix2 i j)
      = layer sW (fun i j => x2 (ix2 i j)) (fun j => x3 (ix1 j)) (fun k => val_main_v5 (F := Ideal) x0 x1 (ix2 i k)) j := by
  pointwise [val_main_v16, val_main_v15, val_main_v14, val_main_v13, val_main_v12, val_main_v11, val_main_v10, val_main_v9, val_main_v8, val_main_v7, val_main_v6, val_main_cst_1, val_main_cst_2]
  rw [half_word]; rfl

theorem v27_apply (i : Fin 500000) (j : Fin 32) :
    val_main_v27 (F := Ideal) x0 x1 x2 x3 x4 x5 (ix2 i j)
      = layer sW (fun i j => x4 (ix2 i j)) (fun j => x5 (ix1 j)) (fun k => val_main_v16 (F := Ideal) x0 x1 x2 x3 (ix2 i k)) j := by
  pointwise [val_main_v27, val_main_v26, val_main_v25, val_main_v24, val_main_v23, val_main_v22, val_main_v21, val_main_v20, val_main_v19, val_main_v18, val_main_v17, val_main_cst_3, val_main_cst_4]
  rw [half_word]; rfl

theorem v38_apply (i : Fin 500000) (j : Fin 32) :
    val_main_v38 (F := Ideal) x0 x1 x2 x3 x4 x5 x6 x7 (ix2 i j)
      = layer sW (fun i j => x6 (ix2 i j)) (fun j => x7 (ix1 j)) (fun k => val_main_v27 (F := Ideal) x0 x1 x2 x3 x4 x5 (ix2 i k)) j := by
  pointwise [val_main_v38, val_main_v37, val_main_v36, val_main_v35, val_main_v34, val_main_v33, val_main_v32, val_main_v31, val_main_v30, val_main_v29, val_main_v28, val_main_cst_5, val_main_cst_6]
  rw [half_word]; rfl

theorem v44_apply (i : Fin 500000) (j : Fin 32) :
    val_main_v44 (F := Ideal) x0 x1 x2 x3 x4 x5 x6 x7 (ix2 i j)
      = val_main_v38 (F := Ideal) x0 x1 x2 x3 x4 x5 x6 x7 (ix2 i j)
        * Ideal.rsqrt (∑ k, val_main_v38 (F := Ideal) x0 x1 x2 x3 x4 x5 x6 x7 (ix2 i k) * val_main_v38 (F := Ideal) x0 x1 x2 x3 x4 x5 x6 x7 (ix2 i k)) := by
  pointwise [val_main_v44, val_main_v43, val_main_v42, val_main_v41, val_main_v40, val_main_v39, val_main_cst_7]

/-- The normalised activations of a row. -/
theorem v44_row (i : Fin 500000) (j : Fin 32) :
    val_main_v44 (F := Ideal) x0 x1 x2 x3 x4 x5 x6 x7 (ix2 i j)
      = row sW (fun i j => x2 (ix2 i j)) (fun j => x3 (ix1 j)) (fun i j => x4 (ix2 i j)) (fun j => x5 (ix1 j))
          (fun i j => x6 (ix2 i j)) (fun j => x7 (ix1 j)) (filled (x1 ix0) fun k => x0 (ix2 i k)) j := by
  rw [v44_apply]
  simp only [v38_apply, v27_apply, v16_apply, v5_apply]
  rfl

end Cert.ReferenceIdeal.Rows
-- ==== Proof.ReferenceValue.lean ====
/-
  The reference's two results, read at an entry: the mask of a row, and the row's three layers over its length where the mask
  keeps it, zero where it does not.
-/
module

public import proofs.«01_k».proof.Proof.Gen.ReferenceIdeal
public import proofs.«01_k».proof.Proof.Gen.ReferenceIdeal.Read
public import proofs.«01_k».proof.Proof.Math
public import Idealize.ShloMosaic.Lib.Pointwise
public import Idealize.ShloMosaic.Lib.Routing.OpsSet
public import Idealize.ShloMosaic.Lib.Routing.OpsPair
public import Idealize.ShloMosaic.Lib.Routing.OpsOrder

@[expose] public section

set_option maxRecDepth 16384

noncomputable section

namespace Cert.ReferenceIdeal.Rows

open Cert.ReferenceIdeal Cert.ReferenceIdeal.Gen Cert.ReferenceIdeal.Read Cert.Mlp
open Idealize.ShloMosaic

variable (x0 : Vec Ideal S500000x83 .f32) (x1 : Vec Ideal S_ .f32) (x2 : Vec Ideal S83x32 .f32) (x3 : Vec Ideal S32 .f32)
    (x4 : Vec Ideal S32x32 .f32) (x5 : Vec Ideal S32 .f32) (x6 : Vec Ideal S32x32 .f32) (x7 : Vec Ideal S32 .f32)

/-- The mask of a row: the bit of whether it has an entry that is not zero. -/
theorem v2_apply (i : Fin 500000) : val_main_v2 (F := Ideal) x0 (ix1 i) = 1#1 ↔ ∃ k, x0 (ix2 i k) ≠ 0 := by
  have e : val_main_v2 (F := Ideal) x0 (ix1 i)
      = Finset.fold IntOp.ori (0#1) (fun x => BitVec.ofBool (decide (x0 (ix2 i x) ≠ 0))) Finset.univ := by
    pointwise [val_main_v2, val_main_v1, val_main_v0, val_main_cst, val_main_c]
  rw [e, Routing.fold_ori]
  constructor
  · rintro ⟨k, -, h⟩
    refine ⟨k, fun h0 => ?_⟩
    rw [decide_eq_false (not_not.mpr h0)] at h
    exact absurd h (by decide)
  · rintro ⟨k, h⟩
    exact ⟨k, Finset.mem_univ _, by rw [decide_eq_true h]; rfl⟩

/-- Where a row's update goes: to the row itself where the mask keeps it, past the end where not. -/
theorem v53_apply (i : Fin 500000) (k : Fin 1) :
    (val_main_v53 (F := Ideal) x0 (ix2 i k)).toInt = if val_main_v2 (F := Ideal) x0 (ix1 i) = 1#1 then (i.val : Int) else 500000 := by
  pointwise [val_main_v53, val_main_v52, val_main_v51, val_main_v50, val_main_v49, val_main_v48, val_main_v46, val_main_v45, val_main_call1_v1, val_main_call1_v0, val_main_c_8, val_main_c_10, val_main_c_11]
  rcases BitVec.eq_zero_or_eq_one (val_main_v2 (F := Ideal) x0 (ix1 i)) with h | h <;> rw [h]
  · rfl
  · have hi := i.isLt
    have e : (BitVec.ofNat 32 i.val).toInt = (i.val : Int) := StableHlo.Predicate.toInt_ofNat_small _ (by omega)
    have hs : IntOp.cmpi CmpIPredicate.slt (BitVec.ofNat 32 i.val) 0#32 = 0#1 := by
      show BitVec.ofBool ((BitVec.ofNat 32 i.val).slt 0#32) = 0#1
      rw [BitVec.slt_eq_decide, e, decide_eq_false (by rw [show (0#32).toInt = 0 from rfl]; omega)]; rfl
    show BitVec.toInt (Scalar.select (IntOp.cmpi CmpIPredicate.slt (BitVec.ofNat 32 i.val) 0#32) _ (BitVec.ofNat 32 i.val)) = _
    rw [hs, if_pos rfl]; exact e

/-- The scatter's dimension numbers. -/
abbrev dS := scatter_S500000x32_S500000x1_S500000x32_1_0_0_1

/-- An update's row starts at its index word, -/
theorem start_row (idx : IVec S500000x1 32) (k : S500000x32.Idx) : dS.start k idx 0 = (idx (ix2 (k 0) 0)).toInt := by
  unfold ScatterDims.start
  rw [dif_pos (by decide)]
  refine congrArg (fun z => (idx z).toInt) (funext fun b => ?_)
  match b with
  | ⟨0, _⟩ => rfl
  | ⟨1, _⟩ => rfl

/-- so it lands where its index word and its column say. -/
theorem lands (idx : IVec S500000x1 32) (k : S500000x32.Idx) (i : Fin 500000) (j : Fin 32) :
    dS.resultIdx? k idx = some (ix2 i j) ↔ (idx (ix2 (k 0) 0)).toInt = (i.val : Int) ∧ (k 1).val = j.val := by
  rw [Routing.resultIdx?_eq_some]
  have h1 : dS.start k idx 1 = 0 := by unfold ScatterDims.start; rw [dif_neg (by decide)]
  have w0 : dS.window k 0 = 0 := by unfold ScatterDims.window; rw [dif_neg (by decide)]
  have w1 : dS.window k 1 = (k 1).val := by unfold ScatterDims.window; rw [dif_pos (by decide)]; rfl
  constructor
  · intro h
    have a0 := h 0
    have a1 := h 1
    rw [start_row, w0] at a0
    rw [h1, w1] at a1
    change (idx (ix2 (k 0) 0)).toInt + ((0 : Nat) : Int) = (i.val : Int) at a0
    change 0 + (((k 1).val : Nat) : Int) = (j.val : Int) at a1
    exact ⟨by omega, by omega⟩
  · rintro ⟨a0, a1⟩ b
    match b with
    | ⟨0, _⟩ =>
      show dS.start k idx 0 + (dS.window k 0 : Int) = (i.val : Int)
      rw [start_row, w0, a0]; omega
    | ⟨1, _⟩ =>
      show dS.start k idx 1 + (dS.window k 1 : Int) = (j.val : Int)
      rw [h1, w1, a1]; omega

/-- The first result: a row that the mask keeps is its normalised activations, any other zero. -/
theorem v54_apply (i : Fin 500000) (j : Fin 32) :
    val_main_v54 (F := Ideal) x0 x1 x2 x3 x4 x5 x6 x7 (ix2 i j)
      = if val_main_v2 (F := Ideal) x0 (ix1 i) = 1#1 then val_main_v44 (F := Ideal) x0 x1 x2 x3 x4 x5 x6 x7 (ix2 i j) else 0 := by
  unfold val_main_v54
  have hi := i.isLt
  -- an update that lands at `(i, j)` is row `i`'s own, and the mask keeps row `i`
  have own : ∀ k : S500000x32.Idx, dS.resultIdx? k (val_main_v53 (F := Ideal) x0) = some (ix2 i j) →
      k = ix2 i j ∧ val_main_v2 (F := Ideal) x0 (ix1 i) = 1#1 := fun k hk => by
    obtain ⟨a, b⟩ := (lands _ k i j).mp hk
    rw [v53_apply x0 (k 0) 0] at a
    split at a
    · next h =>
      have e : k 0 = i := Fin.ext (by exact_mod_cast a)
      rw [e] at h
      refine ⟨?_, h⟩
      rw [eq_ix2 k, e, show k 1 = j from Fin.ext b]
    · exfalso; omega
  by_cases h : val_main_v2 (F := Ideal) x0 (ix1 i) = 1#1
  · rw [if_pos h]
    refine Routing.scatter_set_hit dS _ _ _ _ _ (fun k hk => by rw [(own k hk).1]) (ix2 i j) ((lands _ _ i j).mpr ⟨?_, rfl⟩)
    show (val_main_v53 (F := Ideal) x0 (ix2 i 0)).toInt = (i.val : Int)
    rw [v53_apply x0 i 0, if_pos h]
  · rw [if_neg h, Routing.scatter_set_miss dS _ _ _ _ fun k hk => h (own k hk).2]
    pointwise [val_main_v47, val_main_cst_9]

end Cert.ReferenceIdeal.Rows
-- ==== Proof.Agreement.lean ====
/-
  The two programs agree at every entry of both results when the batch is nonnegative: a row's sum is positive exactly when
  one of its entries is not zero, so the kernel's mask is the reference's, and on a row that is kept the scaled row is the
  plain one (Math.lean).
-/
module

public import proofs.«01_k».proof.Defs
public import proofs.«01_k».proof.Proof.KernelIdealValue
public import proofs.«01_k».proof.Proof.ReferenceRows
public import proofs.«01_k».proof.Proof.ReferenceValue
public import proofs.«01_k».proof.Proof.Gen.ReferenceIdeal.Run
public import proofs.«01_k».proof.Proof.Gen.ReferenceIdeal.Read
public import proofs.«01_k».proof.Proof.Gen.Pre_nonneg
public import Idealize.ShloMosaic.Lib.ReduceAll

@[expose] public section

set_option maxRecDepth 16384

noncomputable section

namespace Cert.Proof

open Idealize.ShloMosaic Idealize.ShloMosaic.TcCoe Idealize.SL.Sem
open Cert.KernelIdeal.Run Cert.Mlp Cert.ReferenceIdeal.Rows

/-- The precondition, entry by entry. -/
theorem batch_nonneg (m : (ℓ : Loc Cert.KernelIdeal.nD Cert.KernelIdeal.τ Cert.KernelIdeal.sig) → Buf (Elt Ideal) ℓ)
    (h : Cert.Pre_KernelIdeal_nonneg m) (c : Dev Cert.KernelIdeal.nD) (i : Fin 500000) (k : Fin 83) : 0 ≤ arg0 m c (ix2 i k) := by
  have h1 := congrFun (h c) ix0
  unfold Cert.Pre_nonneg.fn at h1
  have h2 := Host.reduce_andi_all (t := ⟨0, ![]⟩) _ _ _ _ _ h1 (ix2 i k)
  revert h2
  pointwise []
  intro h2
  by_contra hn
  rw [decide_eq_false hn] at h2
  exact absurd h2 (by decide)

/-- The kernel's mask of a nonnegative row is the reference's. -/
theorem mask_agree (x0 : Vec Ideal ⟨2, ![500000, 83]⟩ .f32) (hx : ∀ i k, 0 ≤ x0 (ix2 i k)) (i : Fin 500000) :
    Cert.ReferenceIdeal.Read.val_main_v2 (F := Ideal) x0 (ix1 i) = BitVec.ofBool (colMask fun k => x0 (ix2 i k)) := by
  have h := (v2_apply x0 i).trans (sum_pos_iff _ (hx i)).symm
  unfold colMask
  by_cases hp : 0 < ∑ k, x0 (ix2 i k)
  · rw [h.mpr hp, decide_eq_true hp]; rfl
  · rw [decide_eq_false hp]
    exact (by decide : ∀ v : BitVec 1, v ≠ 1#1 → v = BitVec.ofBool false) _ fun e => hp (h.mp e)

/-- The first result, whole. -/
theorem result_0 (m : (ℓ : Loc Cert.KernelIdeal.nD Cert.KernelIdeal.τ Cert.KernelIdeal.sig) → Buf (Elt Ideal) ℓ)
    (h : Cert.Pre_KernelIdeal_nonneg m) (c : Dev Cert.KernelIdeal.nD) :
    Cert.ReferenceIdeal.Read.val_main_v54 (F := Ideal) (arg0 m c) (arg1 m c) (arg2 m c) (arg3 m c) (arg4 m c) (arg5 m c) (arg6 m c) (arg7 m c)
      = out0 m c := by
  funext y
  obtain ⟨i, j, rfl⟩ := exists_ix2 y
  rw [out0_apply, actCol_eq, v54_apply, v44_row, mask_agree _ (batch_nonneg m h c)]
  cases colMask fun k => arg0 m c (ix2 i k)
  · rfl
  · rfl

/-- The second result, whole. -/
theorem result_1 (m : (ℓ : Loc Cert.KernelIdeal.nD Cert.KernelIdeal.τ Cert.KernelIdeal.sig) → Buf (Elt Ideal) ℓ)
    (h : Cert.Pre_KernelIdeal_nonneg m) (c : Dev Cert.KernelIdeal.nD) :
    Cert.ReferenceIdeal.Read.val_main_v2 (F := Ideal) (arg0 m c) = out1 m c := by
  funext y
  obtain ⟨i, rfl⟩ : ∃ i : Fin 500000, y = ix1 i := ⟨y 0, funext fun a => match a with | ⟨0, _⟩ => rfl⟩
  rw [out1_apply, mask_agree _ (batch_nonneg m h c)]

/-- From memories that agree on the arguments, the two runs end with equal results. -/
theorem algebraic : Cert.algebraic_KernelIdeal_ReferenceIdeal_pre_nonneg := by
  intro m g m' g' hpre hargs
  refine ⟨fun c => out0 m c, fun c => out1 m c, ?_, ?_⟩
  · exact run_value m g
  · refine (θ_run Cert.ReferenceIdeal.defs _ _).mono (fun r h c => ?_) (Cert.ReferenceIdeal.Value.run (F := Ideal) m' g')
    obtain ⟨h0, h1, h2⟩ := h c
    obtain ⟨a0, a1, a2, a3, a4, a5, a6, a7⟩ := hargs c
    refine ⟨h0.trans ?_, h1.trans ?_, h2⟩
    · rw [Cert.ReferenceIdeal.Read.val_main_v54_eq, a0, a1, a2, a3, a4, a5, a6, a7]
      exact result_0 m hpre c
    · rw [a0]
      exact result_1 m hpre c

end Cert.Proof
-- ==== Proof.lean ====
/-
  The proof of `Cert.Claim`: each run's frame and the agreement of the results are proved in their own modules;
  the two programs' texts are one, so the idealization changes nothing.
-/
module

public import proofs.«01_k».proof.Defs
public import proofs.«01_k».proof.Proof.KernelFrame
public import proofs.«01_k».proof.Proof.KernelIdealValue
public import proofs.«01_k».proof.Proof.Agreement
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_nonneg

@[expose] public section

noncomputable section

namespace Cert.Proof

open Idealize.ShloMosaic Idealize.SL.Sem

/-- The reference is host lines only: it writes none of its arguments and declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_nonneg.Gen.facts, Cert.Kernel.Run.frame, Cert.KernelIdeal.Run.frame,
  fun m g _ => Cert.KernelIdeal.Run.frame m g trivial, frame_reference, fun m g _ => frame_reference m g trivial, trivial,
  algebraic⟩

end Cert.Proof

end
